-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_in_range [hPre_scale_in_range : Cert.Pre_scale_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scale_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_in_range [hPre_scale_in_range : Cert.Pre_scale_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scale_in_range [hKernelIdeal : Cert.KernelIdeal.Facts] [hPre_scale_in_range : Cert.Pre_scale_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scale_in_range [hReferenceIdeal : Cert.ReferenceIdeal.Facts] [hPre_scale_in_range : Cert.Pre_scale_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_scale_in_range [hKernelIdeal : Cert.KernelIdeal.Facts] [hReferenceIdeal : Cert.ReferenceIdeal.Facts] [hPre_scale_in_range : Cert.Pre_scale_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scale_in_range : Cert.Pre_scale_in_range.Facts),
    quiescent_Kernel (hKernel := hKernel)
    ∧ quiescent_KernelIdeal (hKernelIdeal := hKernelIdeal)
    ∧ quiescent_KernelIdeal_pre_scale_in_range (hKernelIdeal := hKernelIdeal) (hPre_scale_in_range := hPre_scale_in_range)
    ∧ quiescent_ReferenceIdeal (hReferenceIdeal := hReferenceIdeal)
    ∧ quiescent_ReferenceIdeal_pre_scale_in_range (hReferenceIdeal := hReferenceIdeal) (hPre_scale_in_range := hPre_scale_in_range)
    ∧ preserves_Kernel_KernelIdeal
    ∧ algebraic_KernelIdeal_ReferenceIdeal_pre_scale_in_range (hKernelIdeal := hKernelIdeal) (hReferenceIdeal := hReferenceIdeal) (hPre_scale_in_range := hPre_scale_in_range)
-- ==== Pre_scale_in_range.lean ====
abbrev S2x4096x7936 : Shape := ⟨3, ![2, 4096, 7936]⟩
abbrev S7936x8832 : Shape := ⟨2, ![7936, 8832]⟩
abbrev S8832 : Shape := ⟨1, ![8832]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S2x4096x7936 .bf16) (main_arg1 : FVec F S7936x8832 .fp8e4m3) (main_arg2 : FVec F S8832 .f32) (main_arg3 : IVec S1 32) : IVec S_ 1 :=
  let main_v0 : IVec S_ 32 := shapeCast S_ main_arg3 shapeCasts_S1_S_
  let main_c : IVec S_ 32 := constantI S_ 32 23#32
  let main_v1 : IVec S_ 32 := Host.shrsi main_v0 main_c
  let main_c_0 : IVec S_ 32 := constantI S_ 32 255#32
  let main_v2 : IVec S_ 32 := andi main_v1 main_c_0
  let main_c_1 : IVec S_ 32 := constantI S_ 32 0#32
  let main_v3 : IVec S_ 1 := cmpi .ne main_v2 main_c_1
  let main_c_2 : IVec S_ 32 := constantI S_ 32 254#32
  let main_v4 : IVec S_ 1 := cmpi .ne main_v2 main_c_2
  let main_v5 : IVec S_ 1 := andi main_v3 main_v4
  let main_v6 : IVec S_ 32 := shapeCast S_ main_arg3 shapeCasts_S1_S_
  let main_c_3 : IVec S_ 32 := constantI S_ 32 2147483647#32
  let main_v7 : IVec S_ 32 := andi main_v6 main_c_3
  let main_c_4 : IVec S_ 32 := constantI S_ 32 0#32
  let main_v8 : IVec S_ 1 := cmpi .eq main_v7 main_c_4
  let main_v9 : IVec S_ 1 := ori main_v5 main_v8
  main_v9
-- ==== Kernel.lean ====
abbrev S2x4096x7936 : Shape := ⟨3, ![2, 4096, 7936]⟩
abbrev S7936x8832 : Shape := ⟨2, ![7936, 8832]⟩
abbrev S8832 : Shape := ⟨1, ![8832]⟩
abbrev S1 : Shape := ⟨1, ![1]⟩
abbrev S1x8832 : Shape := ⟨2, ![1, 8832]⟩
abbrev S1024x8x8832 : Shape := ⟨3, ![1024, 8, 8832]⟩
abbrev S1x512x7936 : Shape := ⟨3, ![1, 512, 7936]⟩
abbrev S7936x1280 : Shape := ⟨2, ![7936, 1280]⟩
abbrev S1x1280 : Shape := ⟨2, ![1, 1280]⟩
abbrev S64x8x1280 : Shape := ⟨3, ![64, 8, 1280]⟩
abbrev S512x7936 : Shape := ⟨2, ![512, 7936]⟩
abbrev S512x1280 : Shape := ⟨2, ![512, 1280]⟩

abbrev nBuf : Space → Nat
  | .hbm => 7
  | .vmem => 10
  | .smem => 1
  | _ => 0

abbrev bufTy : (tb : Table) → Fin (tcTables nBuf tb) → BufTy
  | .hbm, ⟨0, _⟩ => ⟨S2x4096x7936, .bf16⟩
  | .hbm, ⟨1, _⟩ => ⟨S7936x8832, .fp8e4m3⟩
  | .hbm, ⟨2, _⟩ => ⟨S8832, .f32⟩
  | .hbm, ⟨3, _⟩ => ⟨S1, .i32⟩
  | .hbm, ⟨4, _⟩ => ⟨S1x8832, .f32⟩
  | .hbm, ⟨5, _⟩ => ⟨S1024x8x8832, .bf16⟩
  | .hbm, ⟨6, _⟩ => ⟨S2x4096x7936, .fp8e4m3⟩
  | .local _ .vmem, ⟨0, _⟩ => ⟨S1x512x7936, .bf16⟩
  | .local _ .vmem, ⟨1, _⟩ => ⟨S1x512x7936, .bf16⟩
  | .local _ .vmem, ⟨2, _⟩ => ⟨S7936x1280, .fp8e4m3⟩
  | .local _ .vmem, ⟨3, _⟩ => ⟨S7936x1280, .fp8e4m3⟩
  | .local _ .vmem, ⟨4, _⟩ => ⟨S1x1280, .f32⟩
  | .local _ .vmem, ⟨5, _⟩ => ⟨S1x1280, .f32⟩
  | .local _ .vmem, ⟨6, _⟩ => ⟨S64x8x1280, .bf16⟩
  | .local _ .vmem, ⟨7, _⟩ => ⟨S64x8x1280, .bf16⟩
  | .local _ .vmem, ⟨8, _⟩ => ⟨S1x512x7936, .fp8e4m3⟩
  | .local _ .vmem, ⟨9, _⟩ => ⟨S1x512x7936, .fp8e4m3⟩
  | .local _ .smem, ⟨0, _⟩ => ⟨S1, .i32⟩
  | _, _ => ⟨S2x4096x7936, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0_0 : Ref sig .tc := ⟨.hbm, 5, rfl⟩
abbrev main_v0_1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 7], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x7936 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S7936x1280 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x8x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x7936 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S2x4096x7936 : Shape := ⟨3, ![2, 4096, 7936]⟩
abbrev S7936x8832 : Shape := ⟨2, ![7936, 8832]⟩
abbrev S8832 : Shape := ⟨1, ![8832]⟩
abbrev S1 : Shape := ⟨1, ![1]⟩
abbrev S1024x8x8832 : Shape := ⟨3, ![1024, 8, 8832]⟩
abbrev S2x4096x8832 : Shape := ⟨3, ![2, 4096, 8832]⟩
abbrev S1x1x8832 : Shape := ⟨3, ![1, 1, 8832]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x7936, .bf16⟩
  | .hbm, ⟨1, _⟩ => ⟨S7936x8832, .fp8e4m3⟩
  | .hbm, ⟨2, _⟩ => ⟨S8832, .f32⟩
  | .hbm, ⟨3, _⟩ => ⟨S1, .i32⟩
  | .hbm, ⟨4, _⟩ => ⟨S1024x8x8832, .bf16⟩
  | .hbm, ⟨5, _⟩ => ⟨S2x4096x7936, .fp8e4m3⟩
  | .local _ .vmem, ⟨0, _⟩ => ⟨S1, .i32⟩
  | .local _ .vmem, ⟨1, _⟩ => ⟨S2x4096x7936, .bf16⟩
  | .local _ .vmem, ⟨2, _⟩ => ⟨S7936x8832, .fp8e4m3⟩
  | .local _ .vmem, ⟨3, _⟩ => ⟨S8832, .f32⟩
  | .local _ .vmem, ⟨4, _⟩ => ⟨S1024x8x8832, .bf16⟩
  | .local _ .vmem, ⟨5, _⟩ => ⟨S2x4096x7936, .fp8e4m3⟩
  | _, _ => ⟨S2x4096x7936, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x7936 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7936x8832 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8832 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x8x8832 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4096x7936 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Body.lean ====
/-
  One grid point of the kernel's body, on any whole staging buffers and at any reading of the floats. `x0` is the buffer of the
  scale's word, `x1` the block of `x`, `x2` the block of the weights, `x3` the block of the weights' scales. The body writes the
  block of codes at the first column block only (`sound_first`); at the others it reads back what it wrote there (`sound_rest`).
-/
module

public import proofs.«01_k».proof.Proof.Gen.Kernel.Frame
public import proofs.«01_k».proof.Proof.Gen.Kernel.Skeleton
public import Idealize.ShloMosaic.Lib.Pipeline.Value
public import Idealize.ShloMosaic.Lib.Pipeline.FrameBody
public import Idealize.ShloMosaic.Lib.VecWindow
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scale's word, of its one-word array. -/
def word (x0 : Vec F S1 .i32) : Elt F .i32 := x0 (Shape.Idx.first (s := S1) (by decide))

/-- The array has one index. -/
theorem idx_S1 (i j : S1.Idx) : i = j := by
  funext a; fin_cases a; apply Fin.ext
  have hi : (i 0).val < 1 := (i 0).isLt
  have hj : (j 0).val < 1 := (j 0).isLt
  show (i 0).val = (j 0).val; omega

set_option maxHeartbeats 1000000 in
/-- At the first column block: the codes' buffer is written, then read back for the product. -/
theorem sound_first (c : Dev nD) (E : Set ℕ) (i : grid0.Coords)
  (arg2 : Memref sig .tc .smem S1 .i32) (harg2 : arg2.IsWhole) (arg3 : Memref sig .tc .vmem S1x512x7936 .bf16) (harg3 : arg3.IsWhole)
  (arg4 : Memref sig .tc .vmem S7936x1280 .fp8e4m3) (harg4 : arg4.IsWhole) (arg5 : Memref sig .tc .vmem S1x1280 .f32) (harg5 : arg5.IsWhole)
  (arg6 : Memref sig .tc .vmem S64x8x1280 .bf16) (harg6 : arg6.IsWhole) (arg7 : Memref sig .tc .vmem S1x512x7936 .fp8e4m3) (harg7 : arg7.IsWhole)
  (x0 : Vec F S1 .i32) (x1 : Vec F S1x512x7936 .bf16) (x2 : Vec F S7936x1280 .fp8e4m3) (x3 : Vec F S1x1280 .f32)
  (x5 : Vec F S1x512x7936 .fp8e4m3) (K : PUnit → sProp 𝕄)
    (h : k0_cond1 i = 1#1) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 (word x0) (k0_pay1 (word x0) x1) x2 x3)
            ∗ owns (c : Thread nD τ) arg7 fullShare (k0_pay1 (word x0) x1)) -∗ K ⟨⟩))
      ⊢ wp frame (wpE (defs₀ (F := F)) Variants.none c none) E
          (cc0_w8a8_linear i arg2 harg2 arg3 harg3 arg4 harg4 arg5 harg5 arg6 harg6 arg7 harg7) K := by
  simp only [cc0_w8a8_linear_eq_skeleton]; unfold cc0_w8a8_linear_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_full _ _ _ _ _).trans ?_
    unfold sound_first.sl.v5 sound_first.sl.H5_1 sound_first.sl.r
    refine congr (congr (congr (congrArg k0_pay2 ?_) ?_) ?_) ?_
    · exact congrFun (View.readAt_full arg2.view f0 _) _
    · refine (View.readCov_full _ _ _ _ _).trans (congr (congrArg k0_pay1 ?_) (View.readAt_full arg3.view f1 _))
      exact congrFun (View.readAt_full arg2.view f0 _) _
    · exact View.readAt_full arg4.view f2 _
    · exact View.readAt_full arg5.view f3 _
  iexists _; isplitr
  swap; · iexact H5
  ipureintro
  unfold sound_first.sl.H5_1
  refine (View.read_writes_full _ _ _ _ _).trans ?_
  unfold sound_first.sl.r
  exact congr (congrArg k0_pay1 (congrFun (View.readAt_full arg2.view f0 _) _)) (View.readAt_full arg3.view f1 _)

set_option maxHeartbeats 1000000 in
/-- At the other column blocks: the codes' buffer is read and left as it was. -/
theorem sound_rest (c : Dev nD) (E : Set ℕ) (i : grid0.Coords)
  (arg2 : Memref sig .tc .smem S1 .i32) (harg2 : arg2.IsWhole) (arg3 : Memref sig .tc .vmem S1x512x7936 .bf16) (harg3 : arg3.IsWhole)
  (arg4 : Memref sig .tc .vmem S7936x1280 .fp8e4m3) (harg4 : arg4.IsWhole) (arg5 : Memref sig .tc .vmem S1x1280 .f32) (harg5 : arg5.IsWhole)
  (arg6 : Memref sig .tc .vmem S64x8x1280 .bf16) (harg6 : arg6.IsWhole) (arg7 : Memref sig .tc .vmem S1x512x7936 .fp8e4m3) (harg7 : arg7.IsWhole)
  (x0 : Vec F S1 .i32) (x1 : Vec F S1x512x7936 .bf16) (x2 : Vec F S7936x1280 .fp8e4m3) (x3 : Vec F S1x1280 .f32)
  (x5 : Vec F S1x512x7936 .fp8e4m3) (K : PUnit → sProp 𝕄)
    (h : ¬ k0_cond1 i = 1#1) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare x5
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 (word x0) x5 x2 x3)
            ∗ owns (c : Thread nD τ) arg7 fullShare x5) -∗ K ⟨⟩))
      ⊢ wp frame (wpE (defs₀ (F := F)) Variants.none c none) E
          (cc0_w8a8_linear i arg2 harg2 arg3 harg3 arg4 harg4 arg5 harg5 arg6 harg6 arg7 harg7) K := by
  simp only [cc0_w8a8_linear_eq_skeleton]; unfold cc0_w8a8_linear_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_full _ _ _ _ _).trans ?_
    unfold sound_rest.sl.r
    refine congr (congr (congr (congrArg k0_pay2 ?_) ?_) ?_) ?_
    · exact congrFun (View.readAt_full arg2.view f0 _) _
    · exact View.readAt_full arg7.view f5 _
    · exact View.readAt_full arg4.view f2 _
    · exact View.readAt_full arg5.view f3 _
  iexists f5; isplitr; · ipureintro; rfl
  iexact H5

end Cert.Kernel.Body

end
-- ==== Proof.Kernel.Frame.lean ====
/-
  The kernel as compiled, at its bits: it terminates, leaves its arguments as they were and every counter at zero. What the two
  results hold is not stated here, so their buffers are forgotten: at every grid point the body finds something in them and leaves
  something.
-/
module

public import proofs.«01_k».proof.Proof.Kernel.Body

@[expose] public section

set_option maxRecDepth 16384

noncomputable section

namespace Cert.Kernel.Run

open Cert.Kernel Cert.Kernel.Gen Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of the weights at point `t`, zeros where it overhangs the array; -/
def wblk (c : Dev nD) (t : Fin cfg0.N) : Vec F S7936x1280 .fp8e4m3 :=
  win0_2.fill (grid0.coords t) (fun _ => Scalar.ofBits .fp8e4m3 0#8) (iblk m c 2 t)
/-- the block of their scales likewise. -/
def sblk (c : Dev nD) (t : Fin cfg0.N) : Vec F S1x1280 .f32 :=
  win0_3.fill (grid0.coords t) (fun _ => Scalar.ofBits .f32 0#32) (iblk m c 3 t)

/-- The proof data: every input's buffer holds its block; the two results' buffers are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wblk m c t
    | ⟨3, _⟩ => sblk m c t
    | ⟨4, _⟩ => fun _ => Scalar.ofBits .bf16 0#16
    | ⟨5, _⟩ => fun _ => Scalar.ofBits .fp8e4m3 0#8
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = wblk m c t := by dsimp only [dats]
theorem after3 (c : Dev nD) (t : Fin cfg0.N) : (dats m 0 c).after 3 t = sblk m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- The weights and their scales are fetched at every point: the block, and past the array's end whatever was there. -/
theorem before2 (c : Dev nD) (t : Fin cfg0.N) (d) :
    (dats m 0 c).before 2 t d = win0_2.fill (grid0.coords t) d (iblk m c 2 t) := by
  unfold Dat.before; rw [if_pos (fetch0_2 t)]; rfl
theorem before3 (c : Dev nD) (t : Fin cfg0.N) (d) :
    (dats m 0 c).before 3 t d = win0_3.fill (grid0.coords t) d (iblk m c 3 t) := by
  unfold Dat.before; rw [if_pos (fetch0_3 t)]; rfl

/-- The results are the forgotten windows. -/
abbrev fgt : Fin cfg0.W → Bool := fun | 4 => true | 5 => true | _ => false

theorem defs₀_row (t : Fin cfg0.N) : defs₀ (F := F) .tc cfg0.body (cfg0.bodyArgs t (cfg0.slots t)) = bodyAt0 t := by
  unfold defs₀; rw [Defs.onTc_tc]

/-- The body at any point, whichever of its two branches is taken. -/
theorem sound_any (c : Dev nD) (t : Fin cfg0.N) (x0 : Vec F S1 .i32) (x1 : Vec F S1x512x7936 .bf16) (x2 : Vec F S7936x1280 .fp8e4m3)
    (x3 : Vec F S1x1280 .f32) (x5 : Vec F S1x512x7936 .fp8e4m3) (K : PUnit → sProp 𝕄) :
    iprop(owns (c : Thread nD τ) (st0_0 t) fullShare x0 ∗ owns (c : Thread nD τ) (st0_1 t) fullShare x1 ∗ owns (c : Thread nD τ) (st0_2 t) fullShare x2
        ∗ owns (c : Thread nD τ) (st0_3 t) fullShare x3 ∗ (∃ d, owns (c : Thread nD τ) (st0_4 t) fullShare d) ∗ owns (c : Thread nD τ) (st0_5 t) fullShare x5
        ∗ (iprop(owns (c : Thread nD τ) (st0_0 t) fullShare x0 ∗ owns (c : Thread nD τ) (st0_1 t) fullShare x1 ∗ owns (c : Thread nD τ) (st0_2 t) fullShare x2
            ∗ owns (c : Thread nD τ) (st0_3 t) fullShare x3 ∗ (∃ d, owns (c : Thread nD τ) (st0_4 t) fullShare d)
            ∗ (∃ d, owns (c : Thread nD τ) (st0_5 t) fullShare d)) -∗ K ⟨⟩))
      ⊢ wp frame (wpE (defs₀ (F := F)) Variants.none c none) Set.univ (bodyAt0 t) K := by
  unfold bodyAt0
  iintro ⟨H0, H1, H2, H3, H4, H5, Hk⟩
  rcases Classical.em (k0_cond1 (grid0.coords t) = 1#1) with h | h
  · iapply (sound_first c Set.univ _ _ _ _ _ _ _ _ _ _ _ _ _ x0 x1 x2 x3 x5 K h)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    iapply Hk
    isplitl [H0]; · iexact H0
    isplitl [H1]; · iexact H1
    isplitl [H2]; · iexact H2
    isplitl [H3]; · iexact H3
    isplitl [H4]; · iexists _; iexact H4
    iexists _; iexact H5
  · iapply (sound_rest c Set.univ _ _ _ _ _ _ _ _ _ _ _ _ _ x0 x1 x2 x3 x5 K h)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    iapply Hk
    isplitl [H0]; · iexact H0
    isplitl [H1]; · iexact H1
    isplitl [H2]; · iexact H2
    isplitl [H3]; · iexact H3
    isplitl [H4]; · iexists _; iexact H4
    iexists _; iexact H5

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X)
    ∗ (∃ X, owns (c : Thread nD τ) (st0_5 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ X, owns (c : Thread nD τ) (st0_4 t) fullShare X)
    ∗ (∃ X, owns (c : Thread nD τ) (st0_5 t) fullShare X))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3]
  have h2 : win0_2.cut (grid0.coords t) (wblk m c t) = iblk m c 2 t := win0_2.cut_fill _ _ _
  have h3 : win0_3.cut (grid0.coords t) (sblk m c t) = iblk m c 3 t := win0_3.cut_fill _ _ _
  rw [show (dats m 0 c).Φ t.succ = (dats m 0 c).Φ t.castSucc from rfl,
    show (dats m 0 c).owesAt () t.succ = (dats m 0 c).owesAt () t.castSucc from rfl,
    after0, after1, after2, after3, h2, h3]
  iintro ⟨HΦ, Ho, ⟨%d0, H0⟩, ⟨%d1, H1⟩, ⟨%d2, H2⟩, ⟨%d3, H3⟩, ⟨%d4, H4⟩, ⟨%d5, H5⟩⟩
  iapply (sound_any c t (iblk m c 0 t) (iblk m c 1 t) (win0_2.fill (grid0.coords t) d2 (iblk m c 2 t))
    (win0_3.fill (grid0.coords t) d3 (iblk m c 3 t)) d5 _)
  isplitl [H0]; · iexact H0
  isplitl [H1]; · iexact H1
  isplitl [H2]; · iexact H2
  isplitl [H3]; · iexact H3
  isplitl [H4]; · iexists _; iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexists d2; iexact H2
  isplitl [H3]; · iexists d3; iexact H3
  isplitl [H4]; · iexact H4
  iexact H5

theorem body_obligation (c : Dev nD) : BodyObligationLoose (dats m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The launch: every array the pipeline stages ends at what it may hold, and every counter at zero. -/
theorem run_main_quiescent : θ_run defs (onTc (τ := τ) (main (F := F))) (s₀ m ρ)
    (fun r => RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The frame: the arguments end unchanged and every counter is at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.arr_in c 1 rfl).trans ((A_eq m c 1).trans (V_main_arg0 m c)),
      (h.1.arr_in c 2 rfl).trans ((A_eq m c 2).trans (V_main_arg1 m c)),
      ((h.1 c).2 main_arg2 (Pipeline.mem_restRefs_of main_arg2 (by decide) (by decide))).trans (V_main_arg2 m c),
      (h.1.arr_in c 0 rfl).trans ((A_eq m c 0).trans (V_main_arg3 m c))⟩, h.2⟩) (run_main_quiescent m ρ)

end Cert.Kernel.Run

end
-- ==== Proof.KernelIdeal.Body.lean ====
/-
  One grid point of the kernel's body, on any whole staging buffers and at any reading of the floats. `x0` is the buffer of the
  scale's word, `x1` the block of `x`, `x2` the block of the weights, `x3` the block of the weights' scales. The body writes the
  block of codes at the first column block only (`sound_first`); at the others it reads back what it wrote there (`sound_rest`).
-/
module

public import proofs.«01_k».proof.Proof.Gen.KernelIdeal.Frame
public import proofs.«01_k».proof.Proof.Gen.KernelIdeal.Skeleton
public import Idealize.ShloMosaic.Lib.Pipeline.Value
public import Idealize.ShloMosaic.Lib.Pipeline.FrameBody
public import Idealize.ShloMosaic.Lib.VecWindow
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scale's word, of its one-word array. -/
def word (x0 : Vec F S1 .i32) : Elt F .i32 := x0 (Shape.Idx.first (s := S1) (by decide))

/-- The array has one index. -/
theorem idx_S1 (i j : S1.Idx) : i = j := by
  funext a; fin_cases a; apply Fin.ext
  have hi : (i 0).val < 1 := (i 0).isLt
  have hj : (j 0).val < 1 := (j 0).isLt
  show (i 0).val = (j 0).val; omega

set_option maxHeartbeats 1000000 in
/-- At the first column block: the codes' buffer is written, then read back for the product. -/
theorem sound_first (c : Dev nD) (E : Set ℕ) (i : grid0.Coords)
  (arg2 : Memref sig .tc .smem S1 .i32) (harg2 : arg2.IsWhole) (arg3 : Memref sig .tc .vmem S1x512x7936 .bf16) (harg3 : arg3.IsWhole)
  (arg4 : Memref sig .tc .vmem S7936x1280 .fp8e4m3) (harg4 : arg4.IsWhole) (arg5 : Memref sig .tc .vmem S1x1280 .f32) (harg5 : arg5.IsWhole)
  (arg6 : Memref sig .tc .vmem S64x8x1280 .bf16) (harg6 : arg6.IsWhole) (arg7 : Memref sig .tc .vmem S1x512x7936 .fp8e4m3) (harg7 : arg7.IsWhole)
  (x0 : Vec F S1 .i32) (x1 : Vec F S1x512x7936 .bf16) (x2 : Vec F S7936x1280 .fp8e4m3) (x3 : Vec F S1x1280 .f32)
  (x5 : Vec F S1x512x7936 .fp8e4m3) (K : PUnit → sProp 𝕄)
    (h : k0_cond1 i = 1#1) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 (word x0) (k0_pay1 (word x0) x1) x2 x3)
            ∗ owns (c : Thread nD τ) arg7 fullShare (k0_pay1 (word x0) x1)) -∗ K ⟨⟩))
      ⊢ wp frame (wpE (defs₀ (F := F)) Variants.none c none) E
          (cc0_w8a8_linear i arg2 harg2 arg3 harg3 arg4 harg4 arg5 harg5 arg6 harg6 arg7 harg7) K := by
  simp only [cc0_w8a8_linear_eq_skeleton]; unfold cc0_w8a8_linear_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_full _ _ _ _ _).trans ?_
    unfold sound_first.sl.v5 sound_first.sl.H5_1 sound_first.sl.r
    refine congr (congr (congr (congrArg k0_pay2 ?_) ?_) ?_) ?_
    · exact congrFun (View.readAt_full arg2.view f0 _) _
    · refine (View.readCov_full _ _ _ _ _).trans (congr (congrArg k0_pay1 ?_) (View.readAt_full arg3.view f1 _))
      exact congrFun (View.readAt_full arg2.view f0 _) _
    · exact View.readAt_full arg4.view f2 _
    · exact View.readAt_full arg5.view f3 _
  iexists _; isplitr
  swap; · iexact H5
  ipureintro
  unfold sound_first.sl.H5_1
  refine (View.read_writes_full _ _ _ _ _).trans ?_
  unfold sound_first.sl.r
  exact congr (congrArg k0_pay1 (congrFun (View.readAt_full arg2.view f0 _) _)) (View.readAt_full arg3.view f1 _)

set_option maxHeartbeats 1000000 in
/-- At the other column blocks: the codes' buffer is read and left as it was. -/
theorem sound_rest (c : Dev nD) (E : Set ℕ) (i : grid0.Coords)
  (arg2 : Memref sig .tc .smem S1 .i32) (harg2 : arg2.IsWhole) (arg3 : Memref sig .tc .vmem S1x512x7936 .bf16) (harg3 : arg3.IsWhole)
  (arg4 : Memref sig .tc .vmem S7936x1280 .fp8e4m3) (harg4 : arg4.IsWhole) (arg5 : Memref sig .tc .vmem S1x1280 .f32) (harg5 : arg5.IsWhole)
  (arg6 : Memref sig .tc .vmem S64x8x1280 .bf16) (harg6 : arg6.IsWhole) (arg7 : Memref sig .tc .vmem S1x512x7936 .fp8e4m3) (harg7 : arg7.IsWhole)
  (x0 : Vec F S1 .i32) (x1 : Vec F S1x512x7936 .bf16) (x2 : Vec F S7936x1280 .fp8e4m3) (x3 : Vec F S1x1280 .f32)
  (x5 : Vec F S1x512x7936 .fp8e4m3) (K : PUnit → sProp 𝕄)
    (h : ¬ k0_cond1 i = 1#1) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare x5
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 (word x0) x5 x2 x3)
            ∗ owns (c : Thread nD τ) arg7 fullShare x5) -∗ K ⟨⟩))
      ⊢ wp frame (wpE (defs₀ (F := F)) Variants.none c none) E
          (cc0_w8a8_linear i arg2 harg2 arg3 harg3 arg4 harg4 arg5 harg5 arg6 harg6 arg7 harg7) K := by
  simp only [cc0_w8a8_linear_eq_skeleton]; unfold cc0_w8a8_linear_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_full _ _ _ _ _).trans ?_
    unfold sound_rest.sl.r
    refine congr (congr (congr (congrArg k0_pay2 ?_) ?_) ?_) ?_
    · exact congrFun (View.readAt_full arg2.view f0 _) _
    · exact View.readAt_full arg7.view f5 _
    · exact View.readAt_full arg4.view f2 _
    · exact View.readAt_full arg5.view f3 _
  iexists f5; isplitr; · ipureintro; rfl
  iexact H5

end Cert.KernelIdeal.Body

end
-- ==== Proof.KernelIdeal.Blocks.lean ====
/-
  The kernel's blocks at coordinates, over the extended reals: which element of which argument each staging buffer holds at each
  grid point. Point `t` is row block `t / 7` and column block `t % 7`; the last column block is 1152 columns wide, the others 1280.
-/
module

public import proofs.«01_k».proof.Proof.KernelIdeal.Body
public import Idealize.ShloMosaic.Lib.Pipeline.ValueKit
public import Idealize.ShloMosaic.Lib.Pointwise

@[expose] public section

set_option maxRecDepth 16384

noncomputable section

namespace Cert.KernelIdeal.Run

open Cert.KernelIdeal Cert.KernelIdeal.Gen Cert.KernelIdeal.Body

open Idealize.ShloMosaic Idealize.ShloMosaic.TcCoe Idealize.ShloMosaic.Tactic
open Idealize.ShloMosaic.Pipeline (Dat RDat Cfg Window BodyObligation BodyObligationLoose cellOf)

variable (m : (ℓ : Loc nD τ sig) → Buf (Elt Ideal) ℓ)

/-- The four arguments, as vectors. -/
abbrev aX (c : Dev nD) : Vec Ideal S2x4096x7936 .bf16 := m ((c.tc : Thread nD τ).loc main_arg0)
abbrev aW (c : Dev nD) : Vec Ideal S7936x8832 .fp8e4m3 := m ((c.tc : Thread nD τ).loc main_arg1)
abbrev aS (c : Dev nD) : Vec Ideal S8832 .f32 := m ((c.tc : Thread nD τ).loc main_arg2)
abbrev aK (c : Dev nD) : Vec Ideal S1 .i32 := m ((c.tc : Thread nD τ).loc main_arg3)

/-! ## Where each block sits -/

/-- The width of the column block at point `t`. -/
def wid (t : Fin cfg0.N) : ℕ := if t.val % 7 = 6 then 1152 else 1280

theorem wid_le (t : Fin cfg0.N) : wid t ≤ 1280 := by unfold wid; split <;> omega
theorem wid_col (t : Fin cfg0.N) (j : ℕ) (h : j < wid t) : t.val % 7 * 1280 + j < 8832 := by
  unfold wid at h; split at h <;> omega

theorem lt112 (t : Fin cfg0.N) : t.val < 112 := lt_of_lt_of_eq t.isLt N_0

theorem index1 : ∀ t : Fin cfg0.N, win0_1.index t = ![t.val / 56, t.val / 7 % 8, 0] :=
  (by decide +kernel : ∀ t : Fin grid0.N, win0_1.index t = ![t.val / 56, t.val / 7 % 8, 0])
theorem index2 : ∀ t : Fin cfg0.N, win0_2.index t = ![0, t.val % 7] :=
  (by decide +kernel : ∀ t : Fin grid0.N, win0_2.index t = ![0, t.val % 7])
theorem index3 : ∀ t : Fin cfg0.N, win0_3.index t = ![0, t.val % 7] :=
  (by decide +kernel : ∀ t : Fin grid0.N, win0_3.index t = ![0, t.val % 7])
theorem index4 : ∀ t : Fin cfg0.N, win0_4.index t = ![t.val / 7, 0, t.val % 7] :=
  (by decide +kernel : ∀ t : Fin grid0.N, win0_4.index t = ![t.val / 7, 0, t.val % 7])
theorem index5 : ∀ t : Fin cfg0.N, win0_5.index t = ![t.val / 56, t.val / 7 % 8, 0] :=
  (by decide +kernel : ∀ t : Fin grid0.N, win0_5.index t = ![t.val / 56, t.val / 7 % 8, 0])

theorem xsize2 : ∀ t : Fin cfg0.N, win0_2.xsize (grid0.coords t) = ![7936, wid t] :=
  (by decide +kernel : ∀ t : Fin grid0.N, win0_2.xsize (grid0.coords t) = ![7936, if t.val % 7 = 6 then 1152 else 1280])
theorem xsize3 : ∀ t : Fin cfg0.N, win0_3.xsize (grid0.coords t) = ![1, wid t] :=
  (by decide +kernel : ∀ t : Fin grid0.N, win0_3.xsize (grid0.coords t) = ![1, if t.val % 7 = 6 then 1152 else 1280])
theorem xsize4 : ∀ t : Fin cfg0.N, win0_4.xsize (grid0.coords t) = ![64, 8, wid t] :=
  (by decide +kernel : ∀ t : Fin grid0.N, win0_4.xsize (grid0.coords t) = ![64, 8, if t.val % 7 = 6 then 1152 else 1280])

/-- The codes are written at the first column block of each row block. -/
theorem cond_iff : ∀ t : Fin cfg0.N, k0_cond1 (grid0.coords t) = 1#1 ↔ t.val % 7 = 0 :=
  (by decide +kernel : ∀ t : Fin grid0.N, k0_cond1 (grid0.coords t) = 1#1 ↔ t.val % 7 = 0)

/-! ## The blocks of the arguments -/

/-- The scale's word is the argument's at every point. -/
theorem word_iblk (c : Dev nD) (t : Fin cfg0.N) : word (F := Ideal) (iblk m c 0 t) = aK m c (ix1 0) := by
  unfold word iblk
  rw [show V m c (Pipeline.arrRef spec0 0) = aK m c from V_main_arg3 m c]
  exact congrArg (aK m c) (idx_S1 _ _)

/-- The row of `x` that row `r` of the block at point `t` is. -/
theorem iblk1_apply (c : Dev nD) (t : Fin cfg0.N) (r : Fin 512) (k : Fin 7936) :
    (iblk m c 1 t : Vec Ideal S1x512x7936 .bf16) (ix3 0 r k)
      = aX m c (ix3 ⟨t.val / 56, by have := lt112 t; omega⟩ ⟨t.val / 7 % 8 * 512 + r.val, by omega⟩ k) := by
  unfold iblk
  rw [show V m c (Pipeline.arrRef spec0 1) = aX m c from V_main_arg0 m c]
  refine congrArg (aX m c) ?_
  funext a; apply Fin.ext
  refine (Window.rect_emb_val win0_1 _ _ _).trans ?_
  rw [index1]
  fin_cases a
  · show t.val / 56 * 1 + 0 = t.val / 56; omega
  · rfl
  · show 0 * 7936 + k.val = k.val; omega

/-- Within a row block the word and the block of `x` stay. -/
theorem iblk1_congr (c : Dev nD) (t t' : Fin cfg0.N) (h : t.val / 7 = t'.val / 7) :
    (iblk m c 1 t : Vec Ideal S1x512x7936 .bf16) = iblk m c 1 t' := by
  funext y
  have hy : (y : S1x512x7936.Idx) = ix3 0 (y 1) (y 2) := by
    funext a; fin_cases a
    · exact Fin.ext (by have : (y 0).val < 1 := (y 0).isLt; show (y 0).val = 0; omega)
    · rfl
    · rfl
  refine (congrArg (iblk m c 1 t : Vec Ideal S1x512x7936 .bf16) hy).trans (((iblk1_apply m c t (y 1) (y 2)).trans ?_).trans
    ((iblk1_apply m c t' (y 1) (y 2)).symm.trans (congrArg (iblk m c 1 t' : Vec Ideal S1x512x7936 .bf16) hy.symm)))
  refine congrArg (aX m c) (congrArg₂ (fun a b => ix3 a b (y 2)) (Fin.ext ?_) (Fin.ext ?_))
  · show t.val / 56 = t'.val / 56; omega
  · show t.val / 7 % 8 * 512 + _ = t'.val / 7 % 8 * 512 + _; omega

/-- The buffer of the weights, on its part inside the array, whatever is past it. -/
theorem fill2_apply (c : Dev nD) (t : Fin cfg0.N) (d) (k : Fin 7936) (j : Fin 1280) (hj : j.val < wid t) :
    win0_2.fill (grid0.coords t) d (iblk m c 2 t) (ix2 k j) = aW m c (ix2 k ⟨t.val % 7 * 1280 + j.val, wid_col t j.val hj⟩) := by
  have hm : win0_2.moved (grid0.coords t) (ix2 k j) = true := (win0_2.moved_iff _ _).mpr fun a => by
    rw [xsize2]; fin_cases a
    · exact k.isLt
    · exact hj
  unfold Window.fill iblk
  rw [dif_pos hm, show V m c (Pipeline.arrRef spec0 2) = aW m c from V_main_arg1 m c]
  refine congrArg (aW m c) ?_
  funext a; apply Fin.ext
  refine (Window.rect_emb_val win0_2 _ _ _).trans ?_
  rw [index2]
  fin_cases a
  · show 0 * 7936 + k.val = k.val; omega
  · rfl

/-- The scales as the host reshapes them. -/
theorem V_scales (c : Dev nD) (j : Fin 8832) : (V m c main_call0_v0 : Vec Ideal S1x8832 .f32) (ix2 0 j) = aS m c (ix1 j) := by
  have h : (V m c main_call0_v0 : Vec Ideal S1x8832 .f32) = shapeCast S1x8832 (aS m c) shapeCasts_S8832_S1x8832 := by
    show StableHlo.after hostOps0 _ _ = _
    rw [StableHlo.after_cons, StableHlo.after_nil]
    refine (StableHlo.reshape_result _ _ _ _ _ _ _).trans ?_
    rfl
  rw [h]
  pointwise

/-- The buffer of the weights' scales likewise. -/
theorem fill3_apply (c : Dev nD) (t : Fin cfg0.N) (d) (j : Fin 1280) (hj : j.val < wid t) :
    win0_3.fill (grid0.coords t) d (iblk m c 3 t) (ix2 0 j) = aS m c (ix1 ⟨t.val % 7 * 1280 + j.val, wid_col t j.val hj⟩) := by
  have hm : win0_3.moved (grid0.coords t) (ix2 0 j) = true := (win0_3.moved_iff _ _).mpr fun a => by
    rw [xsize3]; fin_cases a
    · exact Nat.zero_lt_one
    · exact hj
  unfold Window.fill iblk
  rw [dif_pos hm, ← V_scales]
  refine congrArg (V m c main_call0_v0) ?_
  funext a; apply Fin.ext
  refine (Window.rect_emb_val win0_3 _ _ _).trans ?_
  rw [index3]
  fin_cases a
  · rfl
  · rfl

end Cert.KernelIdeal.Run

end
-- ==== Proof.Pay.lean ====
/-
  What the kernel's body computes, read at one index over the extended reals: `code` is one element's quantisation, and an
  element of `y` is a sum of products of codes and weights, scaled. The same for the reference's body.
-/
module

public import proofs.«01_k».proof.Proof.Gen.KernelIdeal.Skeleton
public import proofs.«01_k».proof.Proof.Gen.ReferenceIdeal.Skeleton
public import Idealize.ShloMosaic.Lib.Pointwise

@[expose] public section

set_option maxRecDepth 16384

noncomputable section

namespace Cert.Pay

open Idealize.ShloMosaic
open scoped BigOperators

/-- One element's quantisation: times the inverse of the scale's power of two, clipped to [-448, 448]. -/
def code (x inv : EReal) : EReal :=
  min (Ideal.ofBits .f32 0x43E00000#32) (max (Ideal.ofBits .f32 0xC3E00000#32) (x * inv))

/-- The inverse power of two as the kernel finds it: `254` less the exponent field of the scale's word, as the exponent field
    of an f32 (`128` where the field is `0` or `255`). -/
def invK (w : BitVec 32) : EReal :=
  Ideal.ofBits .f32 (Scalar.shli (Scalar.select
    (Scalar.andi (Scalar.cmpi .ne (Scalar.andi (Scalar.shrsi w 23#32) 255#32) 0#32) (Scalar.cmpi .ne (Scalar.andi (Scalar.shrsi w 23#32) 255#32) 255#32))
    (Scalar.subi 254#32 (Scalar.andi (Scalar.shrsi w 23#32) 255#32)) 128#32) 23#32)

/-- The exponent `e` with `|s| = f * 2 ^ e`, `1/2 ≤ f < 1`, as the reference finds it: zero where `s` is zero or not finite. -/
def expR (s : EReal) : EReal :=
  Scalar.select (IntOp.andi (BitVec.ofBool (decide (0 < FloatOps.absf (F := Ideal) (φ := .f32) s)))
      (BitVec.ofBool (decide (FloatOps.absf (F := Ideal) (φ := .f32) s < Ideal.ofBits .f32 2139095040#32))))
    (Ideal.liftRound Int.floor (Ideal.div (Ideal.log (FloatOps.absf (F := Ideal) (φ := .f32) s)) (Ideal.log (Ideal.ofBits .f32 1073741824#32))) + 1) 0

/-- The inverse power of two as the reference finds it. -/
def invR (w : BitVec 32) : EReal := FloatOps.exp2 (F := Ideal) (φ := .f32) (1 - expR (Ideal.ofBits .f32 w))

theorem k_pay1_apply [Cert.KernelIdeal.Facts] (w : BitVec 32) (x : Vec Ideal KernelIdeal.S1x512x7936 .bf16) (r : Fin 512) (k : Fin 7936) :
    KernelIdeal.Gen.k0_pay1 w x (ix3 0 r k) = code (x (ix3 0 r k)) (invK w) := by
  pointwise [KernelIdeal.Gen.k0_pay1]
  rfl

theorem k_pay2_apply [Cert.KernelIdeal.Facts] (w : BitVec 32) (q : Vec Ideal KernelIdeal.S1x512x7936 .fp8e4m3) (a : Vec Ideal KernelIdeal.S7936x1280 .fp8e4m3)
    (s : Vec Ideal KernelIdeal.S1x1280 .f32) (r : Fin 64) (e : Fin 8) (j : Fin 1280) :
    KernelIdeal.Gen.k0_pay2 w q a s (ix3 r e j)
      = (∑ k : Fin 7936, q (ix3 0 ⟨r.val * 8 + e.val, by omega⟩ k) * a (ix2 k j)) * (Ideal.ofBits .f32 w * s (ix2 0 j)) := by
  pointwise [KernelIdeal.Gen.k0_pay2]

theorem r_pay3_apply [Cert.ReferenceIdeal.Facts] (w : Vec Ideal ReferenceIdeal.S1 .i32) (x : Vec Ideal ReferenceIdeal.S2x4096x7936 .bf16) (b : Fin 2) (r : Fin 4096) (k : Fin 7936) :
    ReferenceIdeal.Gen.k0_pay3 w x (ix3 b r k) = code (x (ix3 b r k)) (invR (w (ix1 0))) := by
  pointwise [ReferenceIdeal.Gen.k0_pay3, ReferenceIdeal.Gen.k0_pay2]
  rfl

theorem r_pay1_apply [Cert.ReferenceIdeal.Facts] (w : Vec Ideal ReferenceIdeal.S1 .i32) (x : Vec Ideal ReferenceIdeal.S2x4096x7936 .bf16) (a : Vec Ideal ReferenceIdeal.S7936x8832 .fp8e4m3)
    (s : Vec Ideal ReferenceIdeal.S8832 .f32) (r : Fin 1024) (e : Fin 8) (j : Fin 8832) :
    ReferenceIdeal.Gen.k0_pay1 (ReferenceIdeal.Gen.k0_pay4 w x a s) (ix3 r e j)
      = (∑ k : Fin 7936, ReferenceIdeal.Gen.k0_pay3 w x (ix3 ⟨r.val / 512, by omega⟩ ⟨r.val % 512 * 8 + e.val, by omega⟩ k) * a (ix2 k j))
          * (Ideal.ofBits .f32 (w (ix1 0)) * s (ix1 j)) := by
  pointwise [ReferenceIdeal.Gen.k0_pay1, ReferenceIdeal.Gen.k0_pay4]
  rfl

end Cert.Pay

end
-- ==== Proof.KernelIdeal.Run.lean ====
/-
  The kernel's run over the extended reals. At every grid point the codes' buffer holds the quantised rows of the point's row block
  (written at the row block's first column block, kept at the others), and the buffer of `y` the product of those codes with the
  point's block of weights, scaled. Past the array's end the last column block's buffers hold anything.
-/
module

public import proofs.«01_k».proof.Proof.KernelIdeal.Blocks
public import proofs.«01_k».proof.Proof.Pay

@[expose] public section

set_option maxRecDepth 16384

noncomputable section

namespace Cert.KernelIdeal.Run

open Cert.KernelIdeal Cert.KernelIdeal.Gen Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The block of the weights at point `t`, zeros where it overhangs the array; -/
def wblk (c : Dev nD) (t : Fin cfg0.N) : Vec Ideal S7936x1280 .fp8e4m3 :=
  win0_2.fill (grid0.coords t) (fun _ => (0 : EReal)) (iblk m c 2 t)
/-- the block of their scales likewise. -/
def sblk (c : Dev nD) (t : Fin cfg0.N) : Vec Ideal S1x1280 .f32 :=
  win0_3.fill (grid0.coords t) (fun _ => (0 : EReal)) (iblk m c 3 t)
/-- The codes of the rows of point `t`. -/
def codes (c : Dev nD) (t : Fin cfg0.N) : Vec Ideal S1x512x7936 .fp8e4m3 := k0_pay1 (word (F := Ideal) (iblk m c 0 t)) (iblk m c 1 t)
/-- The block of `y` at point `t`. -/
def yblk (c : Dev nD) (t : Fin cfg0.N) : Vec Ideal S64x8x1280 .bf16 :=
  k0_pay2 (word (F := Ideal) (iblk m c 0 t)) (codes m c t) (wblk m c t) (sblk m c t)

/-- The proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wblk m c t
    | ⟨3, _⟩ => sblk m c t
    | ⟨4, _⟩ => yblk m c t
    | ⟨5, _⟩ => codes m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = wblk m c t := by dsimp only [dats]
theorem after3 (c : Dev nD) (t : Fin cfg0.N) : (dats m 0 c).after 3 t = sblk m c t := by dsimp only [dats]
theorem after4 (c : Dev nD) (t : Fin cfg0.N) : (dats m 0 c).after 4 t = yblk m c t := by dsimp only [dats]
theorem after5 (c : Dev nD) (t : Fin cfg0.N) : (dats m 0 c).after 5 t = codes m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- The weights and their scales are fetched at every point: the block, and past the array's end whatever was there. -/
theorem before2 (c : Dev nD) (t : Fin cfg0.N) (d) :
    (dats m 0 c).before 2 t d = win0_2.fill (grid0.coords t) d (iblk m c 2 t) := by
  unfold Dat.before; rw [if_pos (fetch0_2 t)]; rfl
theorem before3 (c : Dev nD) (t : Fin cfg0.N) (d) :
    (dats m 0 c).before 3 t d = win0_3.fill (grid0.coords t) d (iblk m c 3 t) := by
  unfold Dat.before; rw [if_pos (fetch0_3 t)]; rfl

/-- Within a row block the codes are the same. -/
theorem codes_congr (c : Dev nD) (t t' : Fin cfg0.N) (h : t.val / 7 = t'.val / 7) : codes m c t = codes m c t' := by
  unfold codes
  rw [word_iblk, word_iblk]
  exact congrArg (k0_pay1 (aK m c (ix1 0))) (iblk1_congr m c t t' h)

/-- Past a row block's first point the codes' buffer holds what was left there at the first. -/
theorem before5 (c : Dev nD) (d) : ∀ (n : ℕ) (t : Fin cfg0.N), t.val = n → t.val % 7 ≠ 0 → (dats m 0 c).before 5 t d = codes m c t := by
  intro n
  induction n with
  | zero => intro t h0 h; rw [h0] at h; exact absurd rfl h
  | succ n ih =>
    intro t hn h
    have hlt : t.val - 1 < cfg0.N := Nat.lt_of_le_of_lt (Nat.sub_le _ _) t.isLt
    have hff : (cfg0.win 5).flush ⟨t.val - 1, hlt⟩ = false := by
      rw [← Bool.not_eq_true, flush0_5]; show ¬ (t.val - 1) % 7 = 6; omega
    have hcc : codes m c ⟨t.val - 1, hlt⟩ = codes m c t := codes_congr m c _ _ (by show (t.val - 1) / 7 = t.val / 7; omega)
    rw [(dats m 0 c).before_of_pos 5 t (by omega) rfl d, hff, if_neg Bool.false_ne_true]
    unfold Dat.left
    by_cases h7 : (t.val - 1) % 7 = 0
    · have hid : cfg0.idle 5 (cfg0.grid.coords ⟨t.val - 1, hlt⟩) = false := by
        show (!(k0_cond1 (grid0.coords ⟨t.val - 1, hlt⟩) == 1#1)) = false
        rw [(cond_iff ⟨t.val - 1, hlt⟩).mpr h7]; rfl
      rw [hid]
      refine Eq.trans ?_ hcc
      show (dats m 0 c).kept 5 ⟨t.val - 1, hlt⟩ d = _
      unfold Dat.kept
      rw [after5]
      exact (Pipeline.fill_of_clip_none 5 _ (fun _ => rfl) _ (codes m c ⟨t.val - 1, hlt⟩) _).trans ((cfg0.win 5).fill_cut _ _)
    · have hid : cfg0.idle 5 (cfg0.grid.coords ⟨t.val - 1, hlt⟩) = true := by
        show (!(k0_cond1 (grid0.coords ⟨t.val - 1, hlt⟩) == 1#1)) = true
        rw [Bool.not_eq_true', beq_eq_false_iff_ne, Ne, cond_iff ⟨t.val - 1, hlt⟩]; exact h7
      rw [hid]
      exact (ih ⟨t.val - 1, hlt⟩ (by show t.val - 1 = n; omega) h7).trans hcc

theorem defs₀_row (t : Fin cfg0.N) : defs₀ (F := Ideal) .tc cfg0.body (cfg0.bodyArgs t (cfg0.slots t)) = bodyAt0 t := by
  unfold defs₀; rw [Defs.onTc_tc]

/-- The part of `y`'s block inside the array does not depend on what is past the array's end. -/
theorem ycut (c : Dev nD) (t : Fin cfg0.N) (d2 : Vec Ideal S7936x1280 .fp8e4m3) (d3 : Vec Ideal S1x1280 .f32) :
    win0_4.cut (grid0.coords t) (k0_pay2 (word (F := Ideal) (iblk m c 0 t)) (codes m c t)
        (win0_2.fill (grid0.coords t) d2 (iblk m c 2 t)) (win0_3.fill (grid0.coords t) d3 (iblk m c 3 t)))
      = win0_4.cut (grid0.coords t) (yblk m c t) := by
  funext y
  have hx := xsize4 t
  have h0 : (y 0).val < 64 := lt_of_lt_of_eq (y 0).isLt (congrFun hx 0)
  have h1 : (y 1).val < 8 := lt_of_lt_of_eq (y 1).isLt (congrFun hx 1)
  have h2 : (y 2).val < wid t := lt_of_lt_of_eq (y 2).isLt (congrFun hx 2)
  have hy : win0_4.xinj (grid0.coords t) y = ix3 (⟨(y 0).val, h0⟩ : Fin 64) (⟨(y 1).val, h1⟩ : Fin 8)
      (⟨(y 2).val, lt_of_lt_of_le h2 (wid_le t)⟩ : Fin 1280) := by
    funext a; fin_cases a <;> rfl
  unfold Window.cut yblk wblk sblk
  rw [hy]
  refine (Cert.Pay.k_pay2_apply _ _ _ _ _ _ _).trans (Eq.trans ?_ (Cert.Pay.k_pay2_apply _ _ _ _ _ _ _).symm)
  simp only [fill2_apply m c t _ _ ⟨(y 2).val, lt_of_lt_of_le h2 (wid_le t)⟩ h2,
    fill3_apply m c t _ ⟨(y 2).val, lt_of_lt_of_le h2 (wid_le t)⟩ h2]

/-- The body at any point: the codes and the block of `y` it leaves. -/
theorem sound_any (c : Dev nD) (t : Fin cfg0.N) (x2 : Vec Ideal S7936x1280 .fp8e4m3) (x3 : Vec Ideal S1x1280 .f32)
    (x5 : Vec Ideal S1x512x7936 .fp8e4m3) (h5 : t.val % 7 ≠ 0 → x5 = codes m c t) (K : PUnit → sProp 𝕄) :
    iprop(owns (c : Thread nD τ) (st0_0 t) fullShare (iblk m c 0 t) ∗ owns (c : Thread nD τ) (st0_1 t) fullShare (iblk m c 1 t) ∗ owns (c : Thread nD τ) (st0_2 t) fullShare x2
        ∗ owns (c : Thread nD τ) (st0_3 t) fullShare x3 ∗ (∃ d, owns (c : Thread nD τ) (st0_4 t) fullShare d) ∗ owns (c : Thread nD τ) (st0_5 t) fullShare x5
        ∗ (iprop(owns (c : Thread nD τ) (st0_0 t) fullShare (iblk m c 0 t) ∗ owns (c : Thread nD τ) (st0_1 t) fullShare (iblk m c 1 t) ∗ owns (c : Thread nD τ) (st0_2 t) fullShare x2
            ∗ owns (c : Thread nD τ) (st0_3 t) fullShare x3
            ∗ owns (c : Thread nD τ) (st0_4 t) fullShare (k0_pay2 (word (F := Ideal) (iblk m c 0 t)) (codes m c t) x2 x3)
            ∗ owns (c : Thread nD τ) (st0_5 t) fullShare (codes m c t)) -∗ K ⟨⟩))
      ⊢ wp frame (wpE (defs₀ (F := Ideal)) Variants.none c none) Set.univ (bodyAt0 t) K := by
  unfold bodyAt0
  rcases Classical.em (t.val % 7 = 0) with h | h
  · iintro ⟨H0, H1, H2, H3, H4, H5, Hk⟩
    iapply (sound_first c Set.univ _ _ _ _ _ _ _ _ _ _ _ _ _ (iblk m c 0 t) (iblk m c 1 t) x2 x3 x5 K ((cond_iff t).mpr h))
    isplitl [H0]; · iexact H0
    isplitl [H1]; · iexact H1
    isplitl [H2]; · iexact H2
    isplitl [H3]; · iexact H3
    isplitl [H4]; · iexact H4
    isplitl [H5]; · iexists _; iexact H5
    iexact Hk
  · rw [h5 h]
    iintro ⟨H0, H1, H2, H3, H4, H5, Hk⟩
    iapply (sound_rest c Set.univ _ _ _ _ _ _ _ _ _ _ _ _ _ (iblk m c 0 t) (iblk m c 1 t) x2 x3 (codes m c t) K (fun hc => h ((cond_iff t).mp hc)))
    isplitl [H0]; · iexact H0
    isplitl [H1]; · iexact H1
    isplitl [H2]; · iexact H2
    isplitl [H3]; · iexact H3
    isplitl [H4]; · iexact H4
    isplitl [H5]; · iexact H5
    iexact Hk

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t))))
    ∗ owns (c : Thread nD τ) (st0_5 t) fullShare ((dats m 0 c).after 5 t))

set_option maxHeartbeats 800000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before0, before1, before2, before3]
  have h2 : win0_2.cut (grid0.coords t) (wblk m c t) = iblk m c 2 t := win0_2.cut_fill _ _ _
  have h3 : win0_3.cut (grid0.coords t) (sblk m c t) = iblk m c 3 t := win0_3.cut_fill _ _ _
  rw [show (dats m 0 c).Φ t.succ = (dats m 0 c).Φ t.castSucc from rfl,
    show (dats m 0 c).owesAt () t.succ = (dats m 0 c).owesAt () t.castSucc from rfl,
    after0, after1, after2, after3, after4, after5, h2, h3]
  iintro ⟨HΦ, Ho, ⟨%d0, H0⟩, ⟨%d1, H1⟩, ⟨%d2, H2⟩, ⟨%d3, H3⟩, ⟨%d4, H4⟩, ⟨%d5, H5⟩⟩
  iapply (sound_any m c t (win0_2.fill (grid0.coords t) d2 (iblk m c 2 t))
    (win0_3.fill (grid0.coords t) d3 (iblk m c 3 t)) _ (fun h => before5 m c d5 t.val t rfl h) _)
  isplitl [H0]; · iexact H0
  isplitl [H1]; · iexact H1
  isplitl [H2]; · iexact H2
  isplitl [H3]; · iexact H3
  isplitl [H4]; · iexists _; iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexists d2; iexact H2
  isplitl [H3]; · iexists d3; iexact H3
  isplitl [H4]
  · iexists _
    rw [win0_4.fill_congr_cut (grid0.coords t) (ycut m c t d2 d3)]
    iexact H4
  iexact H5

/-- What the pipeline asks of the codes' buffer after the body: at a point that does not write it, that it is as it was found. -/
theorem post5 (c : Dev nD) (t : Fin cfg0.N) : (owns (c : Thread nD τ) (st0_5 t) fullShare ((dats m 0 c).after 5 t) : sProp 𝕄)
    ⊢ (match cfg0.idle 5 (cfg0.grid.coords t) with
      | true => match (cfg0.win 5).flush t with
        | false => iprop(∃ d, owns (c : Thread nD τ) (st0_5 t) fullShare ((dats m 0 c).before 5 t d))
        | true => owns (c : Thread nD τ) (st0_5 t) fullShare ((dats m 0 c).after 5 t)
      | false => owns (c : Thread nD τ) (st0_5 t) fullShare ((dats m 0 c).after 5 t) : sProp 𝕄) := by
  cases hi : cfg0.idle 5 (cfg0.grid.coords t) with
  | false => exact .rfl
  | true =>
    cases hf : (cfg0.win 5).flush t with
    | true => exact .rfl
    | false =>
      have h7 : t.val % 7 ≠ 0 := fun h => by
        have : (!(k0_cond1 (grid0.coords t) == 1#1)) = true := hi
        rw [(cond_iff t).mpr h] at this
        exact Bool.false_ne_true this
      show _ ⊢ iprop(∃ d, owns (c : Thread nD τ) (st0_5 t) fullShare ((dats m 0 c).before 5 t d))
      iintro H
      iexists (codes m c t)
      rw [before5 m c (codes m c t) t.val t rfl h7, after5]
      iexact H

theorem body_obligation (c : Dev nD) : BodyObligationLoose (dats m 0 c) (defs₀ (F := Ideal)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iapply (post5 m c t)
  iexact H5

set_option backward.isDefEq.respectTransparency.types false in
set_option maxHeartbeats 800000 in
/-- The launch: every array the pipeline stages ends at what the proof data says, and every counter at zero. -/
theorem run_main : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

end Cert.KernelIdeal.Run

end
-- ==== Proof.Scale.lean ====
/-
  The quantiser's inverse power of two. The kernel finds it from the exponent field of the scale's word; the reference from the
  logarithm of the scale itself. They are one number wherever the power is a normal f32.
-/
module

public import proofs.«01_k».proof.Proof.Pay

@[expose] public section

set_option maxRecDepth 16384

noncomputable section

namespace Cert.Pay

open Idealize.ShloMosaic

/-- A word's exponent field and its fraction. -/
def field (w : BitVec 32) : ℕ := w.toNat / 2 ^ 23 % 256
def frac (w : BitVec 32) : ℕ := w.toNat % 2 ^ 23

theorem field_lt (w : BitVec 32) : field w < 256 := Nat.mod_lt _ (by norm_num)

/-- The kernel's shift and mask give the field. -/
theorem shift_mask (w : BitVec 32) : Scalar.andi (Scalar.shrsi w 23#32) 255#32 = BitVec.ofNat 32 (field w) := by
  have h1 : Scalar.shrsi w 23#32 = w.sshiftRight 23 := rfl
  have h2 : BitVec.ofNat 32 (field w) = (w.extractLsb' 23 8).setWidth 32 := by
    apply BitVec.eq_of_toNat_eq
    rw [BitVec.toNat_ofNat, BitVec.toNat_setWidth, BitVec.extractLsb'_toNat, Nat.shiftRight_eq_div_pow]
    rfl
  rw [h2, h1]
  show w.sshiftRight 23 &&& 255#32 = _
  apply BitVec.eq_of_getLsbD_eq
  intro i hi
  rw [BitVec.getLsbD_and, BitVec.getLsbD_sshiftRight, BitVec.getLsbD_setWidth, BitVec.getLsbD_extractLsb']
  by_cases h8 : i < 8
  · have : (255#32).getLsbD i = true := by interval_cases i <;> rfl
    have h3 : 23 + i < 32 := by omega
    have h4 : ¬ 32 ≤ i := by omega
    rw [this]
    simp [h8, h3, hi, h4]
  · have : (255#32).getLsbD i = false := by
      rw [Nat.not_lt] at h8; interval_cases i <;> rfl
    simp [this, h8]

/-- The number a word denotes, by its field and fraction. -/
theorem ofBits_of (w : BitVec 32) : Ideal.ofBits .f32 w =
    if field w = 255 then (if frac w = 0 then (if w.extractLsb' 31 1 == 1#1 then ⊥ else ⊤) else ⊥)
    else if field w = 0 then ((((if w.extractLsb' 31 1 == 1#1 then -1 else 1 : ℝ)) * (frac w : ℝ) * (2 : ℝ) ^ (-149 : ℤ) : ℝ) : EReal)
    else ((((if w.extractLsb' 31 1 == 1#1 then -1 else 1 : ℝ)) * ((2 ^ 23 + frac w : ℕ) : ℝ) * (2 : ℝ) ^ ((field w : ℤ) - 150) : ℝ) : EReal) := by
  have h1 : (w.extractLsb' 23 8).toNat = field w := by
    rw [BitVec.extractLsb'_toNat, Nat.shiftRight_eq_div_pow]; rfl
  have h2 : (w.extractLsb' 0 23).toNat = frac w := by
    rw [BitVec.extractLsb'_toNat]; rfl
  show Ideal.ieee 8 23 w = _
  unfold Ideal.ieee
  dsimp only
  rw [h1, h2]
  norm_num [sub_sub]

/-- The number `2 ^ (n - 127)` from its field alone, at a normal field `n`. -/
theorem ofBits_pow (n : ℕ) (h0 : n ≠ 0) (h : n < 255) :
    Ideal.ofBits .f32 (BitVec.ofNat 32 n <<< 23) = (((2 : ℝ) ^ ((n : ℤ) - 127) : ℝ) : EReal) := by
  have ht : (BitVec.ofNat 32 n <<< 23).toNat = n * 2 ^ 23 := by
    rw [BitVec.toNat_shiftLeft, BitVec.toNat_ofNat, Nat.shiftLeft_eq]; omega
  have hf : field (BitVec.ofNat 32 n <<< 23) = n := by unfold field; rw [ht]; omega
  have hr : frac (BitVec.ofNat 32 n <<< 23) = 0 := by unfold frac; rw [ht]; omega
  have hs : (BitVec.ofNat 32 n <<< 23).extractLsb' 31 1 = 0#1 := by
    apply BitVec.eq_of_toNat_eq
    rw [BitVec.extractLsb'_toNat, Nat.shiftRight_eq_div_pow, ht]
    show n * 2 ^ 23 / 2 ^ 31 % 2 ^ 1 = 0
    omega
  rw [ofBits_of, hf, hr, hs, if_neg (by omega), if_neg h0]
  have : (2 : ℝ) ^ ((n : ℤ) - 127) = 2 ^ 23 * (2 : ℝ) ^ ((n : ℤ) - 150) := by
    rw [show (n : ℤ) - 127 = (23 : ℕ) + ((n : ℤ) - 150) by push_cast; ring, zpow_add₀ (by norm_num), zpow_natCast]
  rw [this]
  norm_num

/-- The kernel's inverse at a normal field, -/
theorem invK_normal (w : BitVec 32) (h0 : field w ≠ 0) (h : field w < 254) :
    invK w = (((2 : ℝ) ^ (127 - (field w : ℤ)) : ℝ) : EReal) := by
  have hne : ∀ n < 255, field w ≠ n → (BitVec.ofNat 32 (field w) != BitVec.ofNat 32 n) = true := fun n hn hf => by
    rw [bne_iff_ne]
    intro he
    have := congrArg BitVec.toNat he
    rw [BitVec.toNat_ofNat, BitVec.toNat_ofNat] at this
    omega
  have h255 : (BitVec.ofNat 32 (field w) != 255#32) = true := by
    rw [bne_iff_ne]
    intro he
    have := congrArg BitVec.toNat he
    rw [BitVec.toNat_ofNat, BitVec.toNat_ofNat] at this
    omega
  have hsub : Scalar.subi 254#32 (BitVec.ofNat 32 (field w)) = BitVec.ofNat 32 (254 - field w) := by
    apply BitVec.eq_of_toNat_eq
    show (254#32 - BitVec.ofNat 32 (field w)).toNat = _
    rw [BitVec.toNat_sub, BitVec.toNat_ofNat, BitVec.toNat_ofNat, BitVec.toNat_ofNat]
    omega
  unfold invK
  rw [shift_mask, hsub]
  have hc : Scalar.andi (Scalar.cmpi .ne (BitVec.ofNat 32 (field w)) 0#32) (Scalar.cmpi .ne (BitVec.ofNat 32 (field w)) 255#32) = 1#1 := by
    show BitVec.ofBool (BitVec.ofNat 32 (field w) != 0#32) &&& BitVec.ofBool (BitVec.ofNat 32 (field w) != 255#32) = 1#1
    rw [hne 0 (by norm_num) h0, h255]; rfl
  rw [hc]
  show Ideal.ofBits .f32 (BitVec.ofNat 32 (254 - field w) <<< 23) = _
  rw [ofBits_pow _ (by omega) (by omega)]
  congr 2
  omega

theorem ofBits_two : Ideal.ofBits .f32 1073741824#32 = ((2 : ℝ) : EReal) := by
  have := ofBits_pow 128 (by norm_num) (by norm_num)
  rw [show BitVec.ofNat 32 128 <<< 23 = 1073741824#32 from rfl] at this
  rw [this]; norm_num

/-- and at field 0 or 255. -/
theorem invK_corner (w : BitVec 32) (h : field w = 0 ∨ field w = 255) : invK w = ((2 : ℝ) : EReal) := by
  unfold invK
  rw [shift_mask]
  rcases h with h | h <;> rw [h] <;> exact ofBits_two

/-- The reference's inverse where the scale is zero or not finite, -/
theorem invR_corner (w : BitVec 32) (h : field w = 255 ∨ (field w = 0 ∧ frac w = 0)) : invR w = ((2 : ℝ) : EReal) := by
  have he : expR (Ideal.ofBits .f32 w) = 0 := by
    have htop : Ideal.ofBits .f32 2139095040#32 = ⊤ := by simp [Ideal.ofBits, Ideal.ieee]
    unfold expR
    rw [htop]
    rcases h with h | ⟨h, hr⟩
    · have ha : FloatOps.absf (F := Ideal) (φ := .f32) (Ideal.ofBits .f32 w) = (⊤ : EReal) := by
        rw [ofBits_of, if_pos h]
        split
        · split <;> rfl
        · rfl
      rw [ha]
      simp [Scalar.select, IntOp.andi]
    · have hz : Ideal.ofBits .f32 w = (0 : EReal) := by
        rw [ofBits_of, h, hr]
        simp
      have ha : FloatOps.absf (F := Ideal) (φ := .f32) (Ideal.ofBits .f32 w) = (0 : EReal) := by
        rw [hz]
        show max (0 : EReal) (-0) = 0
        rw [neg_zero, max_self]
      rw [ha]
      simp [Scalar.select, IntOp.andi]
  unfold invR
  rw [he, sub_zero]
  show ((Real.rpow 2 1 : ℝ) : EReal) = _
  norm_num

/-- and at a normal scale. -/
theorem invR_normal (w : BitVec 32) (h0 : field w ≠ 0) (h : field w < 254) :
    invR w = (((2 : ℝ) ^ (127 - (field w : ℤ)) : ℝ) : EReal) := by
  set s : ℝ := ((2 ^ 23 + frac w : ℕ) : ℝ) * (2 : ℝ) ^ ((field w : ℤ) - 150) with hs
  have hp : (0 : ℝ) < 2 ^ ((field w : ℤ) - 150) := zpow_pos (by norm_num) _
  have hspos : 0 < s := by
    rw [hs]; exact mul_pos (by positivity) hp
  have ha : FloatOps.absf (F := Ideal) (φ := .f32) (Ideal.ofBits .f32 w) = ((s : ℝ) : EReal) := by
    rw [ofBits_of, if_neg (by omega), if_neg h0]
    show max (_ : EReal) (-_) = _
    rw [← EReal.coe_neg, ← EReal.coe_strictMono.monotone.map_max]
    refine congrArg _ ?_
    split
    · rw [neg_one_mul, neg_mul, ← hs, neg_neg]; exact max_eq_right (by linarith)
    · rw [one_mul, ← hs]; exact max_eq_left (by linarith)
  have hfr : (frac w : ℝ) < 2 ^ 23 := by
    have : frac w < 2 ^ 23 := Nat.mod_lt _ (by norm_num)
    exact_mod_cast this
  have hsplit : (2 : ℝ) ^ ((field w : ℤ) - 127) = 2 ^ 23 * (2 : ℝ) ^ ((field w : ℤ) - 150) := by
    rw [show (field w : ℤ) - 127 = (23 : ℕ) + ((field w : ℤ) - 150) by push_cast; ring, zpow_add₀ (by norm_num), zpow_natCast]
  have hlo : (2 : ℝ) ^ ((field w : ℤ) - 127) ≤ s := by
    rw [hsplit, hs]
    refine mul_le_mul_of_nonneg_right ?_ hp.le
    push_cast
    have : (0 : ℝ) ≤ frac w := Nat.cast_nonneg _
    linarith
  have hhi : s < (2 : ℝ) ^ ((field w : ℤ) - 127 + 1) := by
    rw [zpow_add_one₀ (by norm_num), hsplit, hs]
    push_cast
    nlinarith
  have hfloor : ⌊Real.log s / Real.log 2⌋ = (field w : ℤ) - 127 := by
    have hl2 : 0 < Real.log 2 := Real.log_pos (by norm_num)
    rw [Int.floor_eq_iff]
    constructor
    · rw [le_div_iff₀ hl2, ← Real.log_zpow]
      exact Real.log_le_log (zpow_pos (by norm_num) _) hlo
    · rw [div_lt_iff₀ hl2]
      have := Real.log_lt_log hspos hhi
      rw [Real.log_zpow] at this
      push_cast at this
      exact_mod_cast this
  have he : expR (Ideal.ofBits .f32 w) = ((((field w : ℤ) - 126 : ℤ) : ℝ) : EReal) := by
    have htop : Ideal.ofBits .f32 2139095040#32 = ⊤ := by simp [Ideal.ofBits, Ideal.ieee]
    have hl2 : Real.log 2 ≠ 0 := (Real.log_pos (by norm_num)).ne'
    unfold expR
    rw [htop, ha, ofBits_two]
    have h1 : (0 : EReal) < (s : EReal) := by exact_mod_cast hspos
    have h2 : (s : EReal) < ⊤ := EReal.coe_lt_top s
    rw [decide_eq_true h1, decide_eq_true h2]
    have hdiv : Ideal.div (Ideal.log (s : EReal)) (Ideal.log ((2 : ℝ) : EReal)) = ((Real.log s / Real.log 2 : ℝ) : EReal) := by
      rw [Ideal.log_coe, Ideal.log_coe, if_neg (not_le.mpr hspos), if_neg (by norm_num)]
      unfold Ideal.div
      rw [if_neg (by exact_mod_cast hl2), div_eq_mul_inv, EReal.coe_mul, EReal.coe_inv]
    rw [hdiv]
    show (((⌊Real.log s / Real.log 2⌋ : ℤ) : ℝ) : EReal) + 1 = _
    rw [hfloor, ← EReal.coe_one, ← EReal.coe_add]
    congr 1
    push_cast
    ring
  unfold invR
  rw [he, ← EReal.coe_one, ← EReal.coe_sub]
  show ((Real.rpow 2 (1 - (((field w : ℤ) - 126 : ℤ) : ℝ)) : ℝ) : EReal) = _
  congr 1
  show (2 : ℝ) ^ (1 - (((field w : ℤ) - 126 : ℤ) : ℝ)) = _
  rw [show (1 : ℝ) - (((field w : ℤ) - 126 : ℤ) : ℝ) = ((127 - (field w : ℤ) : ℤ) : ℝ) by push_cast; ring, Real.rpow_intCast]

/-- The kernel's inverse is the reference's, wherever the scale is zero, or not finite, or normal and below 2 ^ 127. -/
theorem invK_eq_invR (w : BitVec 32) (h : (field w ≠ 0 ∧ field w ≠ 254) ∨ (field w = 0 ∧ frac w = 0)) : invK w = invR w := by
  have hl := field_lt w
  rcases h with ⟨h0, h1⟩ | h
  · by_cases h2 : field w = 255
    · rw [invK_corner w (.inr h2), invR_corner w (.inl h2)]
    · rw [invK_normal w h0 (by omega), invR_normal w h0 (by omega)]
  · rw [invK_corner w (.inl h.1), invR_corner w (.inr h)]

end Cert.Pay

end
-- ==== Proof.Algebraic.lean ====
/-
  The kernel's results and the reference's are equal over the extended reals. `Gcodes` and `Gy` are the two arrays both programs
  end with: the codes, and the product of the codes with the weights, scaled.
-/
module

public import proofs.«01_k».proof.Defs
public import proofs.«01_k».proof.Proof.KernelIdeal.Run
public import proofs.«01_k».proof.Proof.Gen.ReferenceIdeal.Frame
public import proofs.«01_k».proof.Proof.Scale

@[expose] public section

set_option maxRecDepth 16384

noncomputable section

namespace Cert.Final

open Idealize.ShloMosaic Idealize.ShloMosaic.TcCoe
open Idealize.SL Idealize.SL.Sem
open Idealize.ShloMosaic.Pipeline (Dat Cfg Window)
open scoped BigOperators

/-- The codes: every element of `x`, quantised. -/
def Gcodes (x : Vec Ideal KernelIdeal.S2x4096x7936 .bf16) (inv : EReal) : Vec Ideal KernelIdeal.S2x4096x7936 .fp8e4m3 :=
  fun i => Pay.code (x i) inv

/-- `y`: row `R * 8 + e` of the `2 * 4096` rows of codes times column `j` of the weights, scaled. -/
def Gy (x : Vec Ideal KernelIdeal.S2x4096x7936 .bf16) (a : Vec Ideal KernelIdeal.S7936x8832 .fp8e4m3) (s : Vec Ideal KernelIdeal.S8832 .f32)
    (xs inv : EReal) : Vec Ideal KernelIdeal.S1024x8x8832 .bf16 := fun i =>
  (∑ k : Fin 7936, Pay.code (x (ix3 (⟨(i 0).val / 512, by have : (i 0).val < 1024 := (i 0).isLt; omega⟩ : Fin 2)
      (⟨(i 0).val % 512 * 8 + (i 1).val, by have : (i 1).val < 8 := (i 1).isLt; omega⟩ : Fin 4096) k)) inv * a (ix2 k (i 2)))
    * (xs * s (ix1 (i 2)))

/-! ## The kernel -/

section Kernel
open Cert.KernelIdeal Cert.KernelIdeal.Gen Cert.KernelIdeal.Body Cert.KernelIdeal.Run

variable (m : (ℓ : Loc nD τ sig) → Buf (Elt Ideal) ℓ) (g : Dev nD → PrngReg)

/-- A code of the block at point `t`, from the argument. -/
theorem codes_apply (c : Dev nD) (t : Fin cfg0.N) (r : Fin 512) (k : Fin 7936) :
    codes m c t (ix3 0 r k) = Pay.code (aX m c (ix3 ⟨t.val / 56, by have := lt112 t; omega⟩ ⟨t.val / 7 % 8 * 512 + r.val, by omega⟩ k))
      (Pay.invK (aK m c (ix1 0))) := by
  unfold codes
  rw [word_iblk]
  refine (Pay.k_pay1_apply _ _ r k).trans ?_
  rw [iblk1_apply]

theorem final_codes (c : Dev nD) : (dats m 0 c).arrAt 5 cfg0.N = Gcodes (aX m c) (Pay.invK (aK m c (ix1 0))) := by
  refine (dats m 0 c).arrAt_eq_of_covers 5 _ (by decide +kernel) fun t hf y => ?_
  rw [after5]
  have h0 : (y 0).val < 1 := (y 0).isLt
  have hy : win0_5.xinj (grid0.coords t) y = ix3 (0 : Fin 1) (⟨(y 1).val, (y 1).isLt⟩ : Fin 512) (⟨(y 2).val, (y 2).isLt⟩ : Fin 7936) := by
    funext a; fin_cases a
    · exact Fin.ext (by show (y 0).val = 0; omega)
    · rfl
    · rfl
  refine (congrArg (codes m c t) hy).trans ((codes_apply m c t _ _).trans ?_)
  unfold Gcodes
  refine congrArg (fun i => Pay.code (aX m c i) _) ?_
  funext a; apply Fin.ext
  refine Eq.trans ?_ (Window.rect_emb_val win0_5 t y a).symm
  rw [index5]
  fin_cases a
  · show t.val / 56 = t.val / 56 * 1 + (y 0).val; omega
  · rfl
  · show (y 2).val = 0 * 7936 + (y 2).val; omega

theorem final_y (c : Dev nD) : (dats m 0 c).arrAt 4 cfg0.N
    = Gy (aX m c) (aW m c) (aS m c) (Ideal.ofBits .f32 (aK m c (ix1 0))) (Pay.invK (aK m c (ix1 0))) := by
  refine (dats m 0 c).arrAt_eq_of_covers 4 _ (by decide +kernel) fun t hf y => ?_
  rw [after4]
  have hx := xsize4 t
  have ht := lt112 t
  have h0 : (y 0).val < 64 := lt_of_lt_of_eq (y 0).isLt (congrFun hx 0)
  have h1 : (y 1).val < 8 := lt_of_lt_of_eq (y 1).isLt (congrFun hx 1)
  have h2 : (y 2).val < wid t := lt_of_lt_of_eq (y 2).isLt (congrFun hx 2)
  have h3 := wid_col t _ h2
  have hy : win0_4.xinj (grid0.coords t) y = ix3 (⟨(y 0).val, h0⟩ : Fin 64) (⟨(y 1).val, h1⟩ : Fin 8)
      (⟨(y 2).val, lt_of_lt_of_le h2 (wid_le t)⟩ : Fin 1280) := by
    funext a; fin_cases a <;> rfl
  have he : ((cfg0.win 4).blk t).view.emb y = ix3 (⟨t.val / 7 * 64 + (y 0).val, by omega⟩ : Fin 1024) (⟨(y 1).val, h1⟩ : Fin 8)
      (⟨t.val % 7 * 1280 + (y 2).val, h3⟩ : Fin 8832) := by
    funext a; apply Fin.ext
    refine (Window.rect_emb_val win0_4 t y a).trans ?_
    rw [index4]
    fin_cases a
    · rfl
    · show 0 * 8 + (y 1).val = (y 1).val; omega
    · rfl
  rw [he]
  refine (congrArg (yblk m c t) hy).trans ?_
  unfold yblk wblk sblk
  rw [word_iblk]
  refine (Pay.k_pay2_apply _ _ _ _ _ _ _).trans ?_
  simp only [fill2_apply m c t _ _ ⟨(y 2).val, lt_of_lt_of_le h2 (wid_le t)⟩ h2,
    fill3_apply m c t _ ⟨(y 2).val, lt_of_lt_of_le h2 (wid_le t)⟩ h2, codes_apply]
  unfold Gy
  refine congrArg (· * _) (Finset.sum_congr rfl fun k _ => ?_)
  refine congrArg (fun i => Pay.code (aX m c i) _ * _) ?_
  refine congrArg₂ (fun a b => ix3 a b k) (Fin.ext ?_) (Fin.ext ?_)
  · show t.val / 56 = (t.val / 7 * 64 + (y 0).val) / 512; omega
  · show t.val / 7 % 8 * 512 + ((y 0).val * 8 + (y 1).val) = (t.val / 7 * 64 + (y 0).val) % 512 * 8 + (y 1).val; omega

/-- The kernel's run, its results named. -/
theorem kernel_run : θ_run defs (onTc (τ := τ) (main (F := Ideal))) ⟨m, fun _ => 0, g⟩ (fun r => ∀ c : Dev nD,
      r.2.mem ((c.tc : Thread nD τ).loc main_v0_0) = Gy (aX m c) (aW m c) (aS m c) (Ideal.ofBits .f32 (aK m c (ix1 0))) (Pay.invK (aK m c (ix1 0)))
      ∧ r.2.mem ((c.tc : Thread nD τ).loc main_v0_1) = Gcodes (aX m c) (Pay.invK (aK m c (ix1 0)))
      ∧ r.2.mem ((c.tc : Thread nD τ).loc main_arg3) = m ((c.tc : Thread nD τ).loc main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    have h3 := ((h.1 c).1 0).trans (((dats m 0 c).arrAt_in 0 rfl _).trans ((A_eq m c 0).trans (V_main_arg3 m c)))
    exact ⟨((h.1 c).1 4).trans (final_y m c), ((h.1 c).1 5).trans (final_codes m c), h3,
      ((h.1 c).1 1).trans (((dats m 0 c).arrAt_in 1 rfl _).trans ((A_eq m c 1).trans (V_main_arg0 m c))),
      ((h.1 c).1 2).trans (((dats m 0 c).arrAt_in 2 rfl _).trans ((A_eq m c 2).trans (V_main_arg1 m c))),
      ((h.1 c).2 main_arg2 (Pipeline.mem_restRefs_of main_arg2 (by decide) (by decide))).trans (V_main_arg2 m c), h3⟩) (run_main m g)

/-- The kernel's frame over the extended reals. -/
theorem kernel_quiescent : θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      ((h.1 c).1 1).trans (((dats m 0 c).arrAt_in 1 rfl _).trans ((A_eq m c 1).trans (V_main_arg0 m c))),
      ((h.1 c).1 2).trans (((dats m 0 c).arrAt_in 2 rfl _).trans ((A_eq m c 2).trans (V_main_arg1 m c))),
      ((h.1 c).2 main_arg2 (Pipeline.mem_restRefs_of main_arg2 (by decide) (by decide))).trans (V_main_arg2 m c),
      ((h.1 c).1 0).trans (((dats m 0 c).arrAt_in 0 rfl _).trans ((A_eq m c 0).trans (V_main_arg3 m c)))⟩, h.2⟩) (run_main m g)

end Kernel

/-! ## The reference -/

section Reference
open Cert.ReferenceIdeal Cert.ReferenceIdeal.Gen

variable (m : (ℓ : Loc nD τ sig) → Buf (Elt Ideal) ℓ) (g : Dev nD → PrngReg)

/-- The four arguments, as vectors. -/
abbrev bX (c : Dev nD) : Vec Ideal S2x4096x7936 .bf16 := m ((c.tc : Thread nD τ).loc main_arg0)
abbrev bW (c : Dev nD) : Vec Ideal S7936x8832 .fp8e4m3 := m ((c.tc : Thread nD τ).loc main_arg1)
abbrev bS (c : Dev nD) : Vec Ideal S8832 .f32 := m ((c.tc : Thread nD τ).loc main_arg2)
abbrev bK (c : Dev nD) : Vec Ideal S1 .i32 := m ((c.tc : Thread nD τ).loc main_arg3)

/-- Each argument is one block. -/
theorem rblk0 (c : Dev nD) (t : Fin cfg0.N) : (iblk m c 0 t : Vec Ideal S1 .i32) = bK m c := by
  funext y
  unfold iblk
  refine congrArg (bK m c) ?_
  funext a; apply Fin.ext
  exact Window.rect_emb_val_of_index_zero win0_0 t a (by fin_cases a; rfl) y
theorem rblk1 (c : Dev nD) (t : Fin cfg0.N) : (iblk m c 1 t : Vec Ideal S2x4096x7936 .bf16) = bX m c := by
  funext y
  unfold iblk
  refine congrArg (bX m c) ?_
  funext a; apply Fin.ext
  exact Window.rect_emb_val_of_index_zero win0_1 t a (by fin_cases a <;> rfl) y
theorem rblk2 (c : Dev nD) (t : Fin cfg0.N) : (iblk m c 2 t : Vec Ideal S7936x8832 .fp8e4m3) = bW m c := by
  funext y
  unfold iblk
  refine congrArg (bW m c) ?_
  funext a; apply Fin.ext
  exact Window.rect_emb_val_of_index_zero win0_2 t a (by fin_cases a <;> rfl) y
theorem rblk3 (c : Dev nD) (t : Fin cfg0.N) : (iblk m c 3 t : Vec Ideal S8832 .f32) = bS m c := by
  funext y
  unfold iblk
  refine congrArg (bS m c) ?_
  funext a; apply Fin.ext
  exact Window.rect_emb_val_of_index_zero win0_3 t a (by fin_cases a; rfl) y

theorem off1 : (![0] : Fin 1 → ℕ) = fun _ => 0 := by funext a; fin_cases a; rfl
theorem off2 : (![0, 0] : Fin 2 → ℕ) = fun _ => 0 := by funext a; fin_cases a <;> rfl
theorem off3 : (![0, 0, 0] : Fin 3 → ℕ) = fun _ => 0 := by funext a; fin_cases a <;> rfl

/-- A load of a whole array reads the array. -/
theorem ld0 (x : Vec Ideal S1 .i32) : View.ld x r0_0 = x := View.ld_unit_zero off1 _ x
theorem ld1 (x : Vec Ideal S2x4096x7936 .bf16) : View.ld x r0_1 = x := View.ld_unit_zero off3 _ x
theorem ld2 (x : Vec Ideal S7936x8832 .fp8e4m3) : View.ld x r0_2 = x := View.ld_unit_zero off2 _ x
theorem ld3 (x : Vec Ideal S8832 .f32) : View.ld x r0_3 = x := View.ld_unit_zero off1 _ x

/-- What the body leaves: its payloads of the whole arrays. -/
theorem rout4 (x0 : Vec Ideal S1 .i32) (x1 : Vec Ideal S2x4096x7936 .bf16) (x2 : Vec Ideal S7936x8832 .fp8e4m3) (x3 : Vec Ideal S8832 .f32) :
    out0_4 x0 x1 x2 x3 = k0_pay1 (k0_pay4 x0 x1 x2 x3) := by
  unfold out0_4
  refine (View.canon_unit_zero off3 _ _).trans ?_
  rw [ld0, ld1, ld2, ld3]
theorem rout5 (x0 : Vec Ideal S1 .i32) (x1 : Vec Ideal S2x4096x7936 .bf16) (x2 : Vec Ideal S7936x8832 .fp8e4m3) (x3 : Vec Ideal S8832 .f32) :
    out0_5 x0 x1 x2 x3 = k0_pay3 x0 x1 := by
  unfold out0_5
  refine (View.canon_unit_zero off3 _ _).trans ?_
  rw [ld0, ld1]

/-- An element of the reference's codes. -/
theorem r_code (x0 : Vec Ideal S1 .i32) (x1 : Vec Ideal S2x4096x7936 .bf16) :
    k0_pay3 x0 x1 = Gcodes x1 (Pay.invR (x0 (ix1 0))) := by
  funext i
  have hi : i = ix3 (i 0) (i 1) (i 2) := by funext a; fin_cases a <;> rfl
  unfold Gcodes
  rw [hi]
  exact Pay.r_pay3_apply _ _ _ _ _

/-- An element of the reference's `y`. -/
theorem r_y (x0 : Vec Ideal S1 .i32) (x1 : Vec Ideal S2x4096x7936 .bf16) (x2 : Vec Ideal S7936x8832 .fp8e4m3) (x3 : Vec Ideal S8832 .f32) :
    k0_pay1 (k0_pay4 x0 x1 x2 x3) = Gy x1 x2 x3 (Ideal.ofBits .f32 (x0 (ix1 0))) (Pay.invR (x0 (ix1 0))) := by
  funext i
  have hi : i = ix3 (i 0) (i 1) (i 2) := by funext a; fin_cases a <;> rfl
  rw [hi]
  refine (Pay.r_pay1_apply _ _ _ _ _ _ _).trans ?_
  rw [r_code]
  rfl

theorem rfinal_codes (c : Dev nD) : (dats m 0 c).arrAt 5 cfg0.N = Gcodes (bX m c) (Pay.invR (bK m c (ix1 0))) := by
  refine (dats m 0 c).arrAt_eq_of_covers 5 _ (by decide +kernel) fun t hf y => ?_
  rw [after0_5, rblk0, rblk1, rblk2, rblk3, rout5, r_code]
  refine congrArg (Gcodes (bX m c) (Pay.invR (bK m c (ix1 0)))) ?_
  funext a; apply Fin.ext
  exact (Window.rect_emb_val_of_index_zero win0_5 t a (by fin_cases a <;> rfl) y).symm

theorem rfinal_y (c : Dev nD) : (dats m 0 c).arrAt 4 cfg0.N
    = Gy (bX m c) (bW m c) (bS m c) (Ideal.ofBits .f32 (bK m c (ix1 0))) (Pay.invR (bK m c (ix1 0))) := by
  refine (dats m 0 c).arrAt_eq_of_covers 4 _ (by decide +kernel) fun t hf y => ?_
  rw [after0_4, rblk0, rblk1, rblk2, rblk3, rout4, r_y]
  refine congrArg (Gy (bX m c) (bW m c) (bS m c) (Ideal.ofBits .f32 (bK m c (ix1 0))) (Pay.invR (bK m c (ix1 0)))) ?_
  funext a; apply Fin.ext
  exact (Window.rect_emb_val_of_index_zero win0_4 t a (by fin_cases a <;> rfl) y).symm

/-- The reference's run, its results named. -/
theorem reference_run : θ_run defs (onTc (τ := τ) (main (F := Ideal))) ⟨m, fun _ => 0, g⟩ (fun r => ∀ c : Dev nD,
      r.2.mem ((c.tc : Thread nD τ).loc main_v0_0) = Gy (bX m c) (bW m c) (bS m c) (Ideal.ofBits .f32 (bK m c (ix1 0))) (Pay.invR (bK m c (ix1 0)))
      ∧ r.2.mem ((c.tc : Thread nD τ).loc main_v0_1) = Gcodes (bX m c) (Pay.invR (bK m c (ix1 0)))
      ∧ r.2.mem ((c.tc : Thread nD τ).loc main_arg3) = m ((c.tc : Thread nD τ).loc main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    have h3 := ((h c).1 0).trans (((dats m 0 c).arrAt_in 0 rfl _).trans ((A_eq m c 0).trans (V_main_arg3 m c)))
    exact ⟨((h c).1 4).trans (rfinal_y m c), ((h c).1 5).trans (rfinal_codes m c), h3,
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))), h3⟩) (run_main m g)

end Reference

/-! ## The two together -/

/-- The precondition at the scale's word: its exponent field is neither 0 nor 254, or the scale is zero. -/
theorem pre_word [Cert.Pre_scale_in_range.Facts] (x : FVec Ideal Pre_scale_in_range.S2x4096x7936 .bf16) (a : FVec Ideal Pre_scale_in_range.S7936x8832 .fp8e4m3)
    (s : FVec Ideal Pre_scale_in_range.S8832 .f32) (k : IVec Pre_scale_in_range.S1 32)
    (h : Pre_scale_in_range.fn (F := Ideal) x a s k = fun _ => 1#1) :
    (Pay.field (k (ix1 0)) ≠ 0 ∧ Pay.field (k (ix1 0)) ≠ 254) ∨ (Pay.field (k (ix1 0)) = 0 ∧ Pay.frac (k (ix1 0)) = 0) := by
  have h1 := congrFun h (fun a => a.elim0)
  have hk : shapeCast Pre_scale_in_range.S_ k Pre_scale_in_range.Facts.shapeCasts_S1_S_ (fun a => a.elim0) = k (ix1 0) := by
    refine congrArg k ?_
    funext a; fin_cases a; exact Fin.ext (Nat.lt_one_iff.mp (Shape.reshapeEquiv Pre_scale_in_range.Facts.shapeCasts_S1_S_ (fun a => a.elim0) (0 : Fin 1)).isLt)
  generalize k (ix1 0) = w at hk ⊢
  have h2 : (BitVec.ofBool (Scalar.andi (Scalar.shrsi w 23#32) 255#32 != 0#32) &&& BitVec.ofBool (Scalar.andi (Scalar.shrsi w 23#32) 255#32 != 254#32))
      ||| BitVec.ofBool (w &&& 2147483647#32 == 0#32) = 1#1 := by
    rw [← hk]; exact h1
  rw [Pay.shift_mask] at h2
  have hl := Pay.field_lt w
  by_cases hz : (w &&& 2147483647#32) = 0#32
  · right
    have hn : w.toNat % 2 ^ 31 = 0 := by
      have := congrArg BitVec.toNat hz
      rw [BitVec.toNat_and] at this
      rw [← Nat.and_two_pow_sub_one_eq_mod]
      exact this
    constructor
    · unfold Pay.field; omega
    · unfold Pay.frac; omega
  · left
    have hz' : (w &&& 2147483647#32 == 0#32) = false := beq_eq_false_iff_ne.mpr hz
    rw [hz'] at h2
    constructor
    · intro h0; rw [h0] at h2; exact absurd h2 (by decide)
    · intro h0; rw [h0] at h2; exact absurd h2 (by decide)

theorem algebraic [Cert.Pre_scale_in_range.Facts] : Cert.algebraic_KernelIdeal_ReferenceIdeal_pre_scale_in_range := by
  intro m g m' g' hpre hargs
  refine ⟨_, _, _, kernel_run m g, (θ_run _ _ _).mono (fun _ h c => ?_) (reference_run m' g')⟩
  obtain ⟨e0, e1, e2, e3⟩ := hargs c
  obtain ⟨r0, r1, r2, r3, r4, r5, r6⟩ := h c
  have hinv : Pay.invR (KernelIdeal.Run.aK m c (ix1 0)) = Pay.invK (KernelIdeal.Run.aK m c (ix1 0)) :=
    (Pay.invK_eq_invR _ (pre_word _ _ _ _ (hpre c))).symm
  have f0 : bX m' c = KernelIdeal.Run.aX m c := e0
  have f1 : bW m' c = KernelIdeal.Run.aW m c := e1
  have f2 : bS m' c = KernelIdeal.Run.aS m c := e2
  have f3 : bK m' c = KernelIdeal.Run.aK m c := e3
  rw [f0, f1, f2, f3, hinv] at r0
  rw [f0, f3, hinv] at r1
  exact ⟨r0, r1, r2.trans e3, r3, r4, r5, r6⟩

end Cert.Final

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The precondition reads the one-element array of the scale as a scalar. -/
instance preFacts : Cert.Pre_scale_in_range.Facts := ⟨by decide⟩

/-- Every claim about the two programs. -/
theorem claim : Cert.Claim :=
  ⟨Cert.Kernel.Gen.facts, Cert.KernelIdeal.Gen.facts, Cert.ReferenceIdeal.Gen.facts, preFacts,
    fun m g _ => Cert.Kernel.Run.quiescent m g,
    fun m g _ => Cert.Final.kernel_quiescent m g,
    fun m g _ => Cert.Final.kernel_quiescent m g,
    fun m g _ => Cert.ReferenceIdeal.Gen.frame m g,
    fun m g _ => Cert.ReferenceIdeal.Gen.frame m g,
    trivial,
    Cert.Final.algebraic⟩

end Cert.Proof

end
